-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonzero [hPre_nonzero : Cert.Pre_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonzero [hPre_nonzero : Cert.Pre_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_nonzero [hKernelIdeal : Cert.KernelIdeal.Facts] [hPre_nonzero : Cert.Pre_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_nonzero [hReferenceIdeal : Cert.ReferenceIdeal.Facts] [hPre_nonzero : Cert.Pre_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_nonzero [hKernelIdeal : Cert.KernelIdeal.Facts] [hReferenceIdeal : Cert.ReferenceIdeal.Facts] [hPre_nonzero : Cert.Pre_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_nonzero : Cert.Pre_nonzero.Facts),
    quiescent_Kernel (hKernel := hKernel)
    ∧ quiescent_KernelIdeal (hKernelIdeal := hKernelIdeal)
    ∧ quiescent_KernelIdeal_pre_nonzero (hKernelIdeal := hKernelIdeal) (hPre_nonzero := hPre_nonzero)
    ∧ quiescent_ReferenceIdeal (hReferenceIdeal := hReferenceIdeal)
    ∧ quiescent_ReferenceIdeal_pre_nonzero (hReferenceIdeal := hReferenceIdeal) (hPre_nonzero := hPre_nonzero)
    ∧ preserves_Kernel_KernelIdeal
    ∧ algebraic_KernelIdeal_ReferenceIdeal_pre_nonzero (hKernelIdeal := hKernelIdeal) (hReferenceIdeal := hReferenceIdeal) (hPre_nonzero := hPre_nonzero)
-- ==== Pre_nonzero.lean ====
abbrev S4x22x12 : Shape := ⟨3, ![4, 22, 12]⟩
abbrev S_ : Shape := ⟨0, ![]⟩

class Facts : Prop where

variable [Facts]

def fn {F : FTy → Type} [FloatOps F] (main_arg0 : FVec F S4x22x12 .f32) (main_arg1 : FVec F S_ .f32) (main_arg2 : FVec F S_ .f32) (main_arg3 : FVec F S_ .f32) (main_arg4 : FVec F S_ .f32) : IVec S_ 1 :=
  let main_cst : FVec F S_ .f32 := constant S_ .f32 0x00000000#32
  let main_v0 : IVec S_ 1 := cmpf .une main_arg1 main_cst
  let main_cst_0 : FVec F S_ .f32 := constant S_ .f32 0x00000000#32
  let main_v1 : IVec S_ 1 := cmpf .une main_arg2 main_cst_0
  let main_v2 : IVec S_ 1 := andi main_v0 main_v1
  main_v2
-- ==== Kernel.lean ====
abbrev S4x22x12 : Shape := ⟨3, ![4, 22, 12]⟩
abbrev S_ : Shape := ⟨0, ![]⟩
abbrev S2x1x3328 : Shape := ⟨3, ![2, 1, 3328]⟩
abbrev S40x1 : Shape := ⟨2, ![40, 1]⟩
abbrev S1x1 : Shape := ⟨2, ![1, 1]⟩
abbrev S4x22x40x6600 : Shape := ⟨4, ![4, 22, 40, 6600]⟩
abbrev S1x22x12 : Shape := ⟨3, ![1, 22, 12]⟩
abbrev S1x1x3328 : Shape := ⟨3, ![1, 1, 3328]⟩
abbrev S1x22x40x3328 : Shape := ⟨4, ![1, 22, 40, 3328]⟩
abbrev S22x12 : Shape := ⟨2, ![22, 12]⟩
abbrev S22x1 : Shape := ⟨2, ![22, 1]⟩
abbrev S1x3328 : Shape := ⟨2, ![1, 3328]⟩
abbrev S22x3328 : Shape := ⟨2, ![22, 3328]⟩
abbrev S1x40x1 : Shape := ⟨3, ![1, 40, 1]⟩
abbrev S22x1x3328 : Shape := ⟨3, ![22, 1, 3328]⟩
abbrev S22x40x3328 : Shape := ⟨3, ![22, 40, 3328]⟩
abbrev S4x6600x40x22 : Shape := ⟨4, ![4, 6600, 40, 22]⟩

abbrev nBuf : Space → Nat
  | .hbm => 14
  | .vmem => 13
  | .smem => 0
  | _ => 0

abbrev bufTy : (tb : Table) → Fin (tcTables nBuf tb) → BufTy
  | .hbm, ⟨0, _⟩ => ⟨S4x22x12, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S2x1x3328, .f32⟩
  | .hbm, ⟨6, _⟩ => ⟨S2x1x3328, .f32⟩
  | .hbm, ⟨7, _⟩ => ⟨S40x1, .f32⟩
  | .hbm, ⟨8, _⟩ => ⟨S1x1, .f32⟩
  | .hbm, ⟨9, _⟩ => ⟨S1x1, .f32⟩
  | .hbm, ⟨10, _⟩ => ⟨S1x1, .f32⟩
  | .hbm, ⟨11, _⟩ => ⟨S1x1, .f32⟩
  | .hbm, ⟨12, _⟩ => ⟨S4x22x40x6600, .f32⟩
  | .hbm, ⟨13, _⟩ => ⟨S4x6600x40x22, .f32⟩
  | .local _ .vmem, ⟨0, _⟩ => ⟨S1x22x12, .f32⟩
  | .local _ .vmem, ⟨1, _⟩ => ⟨S1x22x12, .f32⟩
  | .local _ .vmem, ⟨2, _⟩ => ⟨S1x1x3328, .f32⟩
  | .local _ .vmem, ⟨3, _⟩ => ⟨S1x1x3328, .f32⟩
  | .local _ .vmem, ⟨4, _⟩ => ⟨S1x1x3328, .f32⟩
  | .local _ .vmem, ⟨5, _⟩ => ⟨S1x1x3328, .f32⟩
  | .local _ .vmem, ⟨6, _⟩ => ⟨S40x1, .f32⟩
  | .local _ .vmem, ⟨7, _⟩ => ⟨S1x1, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | .local _ .vmem, ⟨11, _⟩ => ⟨S1x22x40x3328, .f32⟩
  | .local _ .vmem, ⟨12, _⟩ => ⟨S1x22x40x3328, .f32⟩
  | _, _ => ⟨S4x22x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x22x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x3328 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x3328 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S40x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x22x40x3328 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S4x22x12 : Shape := ⟨3, ![4, 22, 12]⟩
abbrev S_ : Shape := ⟨0, ![]⟩
abbrev S40 : Shape := ⟨1, ![40]⟩
abbrev S119 : Shape := ⟨1, ![119]⟩
abbrev S1 : Shape := ⟨1, ![1]⟩
abbrev S120 : Shape := ⟨1, ![120]⟩
abbrev S54 : Shape := ⟨1, ![54]⟩
abbrev S55 : Shape := ⟨1, ![55]⟩
abbrev S55x120 : Shape := ⟨2, ![55, 120]⟩
abbrev S55x120x1 : Shape := ⟨3, ![55, 120, 1]⟩
abbrev S55x120x2 : Shape := ⟨3, ![55, 120, 2]⟩
abbrev S6600x2 : Shape := ⟨2, ![6600, 2]⟩
abbrev S4x22x1 : Shape := ⟨3, ![4, 22, 1]⟩
abbrev S4x22 : Shape := ⟨2, ![4, 22]⟩
abbrev S4x22x2 : Shape := ⟨3, ![4, 22, 2]⟩
abbrev S1x6600x1x2 : Shape := ⟨4, ![1, 6600, 1, 2]⟩
abbrev S4x1x22x2 : Shape := ⟨4, ![4, 1, 22, 2]⟩
abbrev S4x6600x22x2 : Shape := ⟨4, ![4, 6600, 22, 2]⟩
abbrev S4x6600x22 : Shape := ⟨3, ![4, 6600, 22]⟩
abbrev S1x1x40x1 : Shape := ⟨4, ![1, 1, 40, 1]⟩
abbrev S4x6600x1x22 : Shape := ⟨4, ![4, 6600, 1, 22]⟩
abbrev S4x6600x40x22 : Shape := ⟨4, ![4, 6600, 40, 22]⟩

abbrev nBuf : Space → Nat
  | .hbm => 191
  | .vmem => 0
  | .smem => 0
  | _ => 0

abbrev hbmTy0_0 (i : Nat) : BufTy := match i % 128 with
  | 0 => ⟨S4x22x12, .f32⟩
  | 1 => ⟨S_, .f32⟩
  | 2 => ⟨S_, .f32⟩
  | 3 => ⟨S_, .f32⟩
  | 4 => ⟨S_, .f32⟩
  | 5 => ⟨S40, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S119, .f32⟩
  | 14 => ⟨S_, .f32⟩
  | 15 => ⟨S119, .f32⟩
  | 16 => ⟨S119, .f32⟩
  | 17 => ⟨S1, .f32⟩
  | 18 => ⟨S_, .f32⟩
  | 19 => ⟨S119, .f32⟩
  | 20 => ⟨S119, .f32⟩
  | 21 => ⟨S119, .f32⟩
  | 22 => ⟨S119, .f32⟩
  | 23 => ⟨S1, .f32⟩
  | 24 => ⟨S119, .f32⟩
  | 25 => ⟨S119, .f32⟩
  | 26 => ⟨S119, .f32⟩
  | 27 => ⟨S1, .f32⟩
  | 28 => ⟨S120, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S54, .f32⟩
  | 37 => ⟨S_, .f32⟩
  | 38 => ⟨S54, .f32⟩
  | 39 => ⟨S54, .f32⟩
  | 40 => ⟨S1, .f32⟩
  | 41 => ⟨S_, .f32⟩
  | 42 => ⟨S54, .f32⟩
  | 43 => ⟨S54, .f32⟩
  | 44 => ⟨S54, .f32⟩
  | 45 => ⟨S54, .f32⟩
  | 46 => ⟨S1, .f32⟩
  | 47 => ⟨S54, .f32⟩
  | 48 => ⟨S54, .f32⟩
  | 49 => ⟨S54, .f32⟩
  | 50 => ⟨S1, .f32⟩
  | 51 => ⟨S55, .f32⟩
  | 52 => ⟨S_, .i32⟩
  | 53 => ⟨S1, .i32⟩
  | 54 => ⟨S_, .f32⟩
  | 55 => ⟨S55, .f32⟩
  | 56 => ⟨S55x120, .f32⟩
  | 57 => ⟨S55x120, .f32⟩
  | 58 => ⟨S55x120x1, .f32⟩
  | 59 => ⟨S55x120x1, .f32⟩
  | 60 => ⟨S55x120x2, .f32⟩
  | 61 => ⟨S6600x2, .f32⟩
  | 62 => ⟨S4x22x1, .f32⟩
  | 63 => ⟨S4x22, .f32⟩
  | 64 => ⟨S4x22, .f32⟩
  | 65 => ⟨S4x22, .f32⟩
  | 66 => ⟨S4x22x1, .f32⟩
  | 67 => ⟨S4x22, .f32⟩
  | 68 => ⟨S4x22, .f32⟩
  | 69 => ⟨S4x22x1, .f32⟩
  | 70 => ⟨S4x22, .f32⟩
  | 71 => ⟨S4x22, .f32⟩
  | 72 => ⟨S4x22, .f32⟩
  | 73 => ⟨S4x22x1, .f32⟩
  | 74 => ⟨S4x22, .f32⟩
  | 75 => ⟨S4x22, .f32⟩
  | 76 => ⟨S4x22x1, .f32⟩
  | 77 => ⟨S4x22, .f32⟩
  | 78 => ⟨S4x22x1, .f32⟩
  | 79 => ⟨S4x22, .f32⟩
  | 80 => ⟨S4x22, .f32⟩
  | 81 => ⟨S4x22, .f32⟩
  | 82 => ⟨S4x22, .f32⟩
  | 83 => ⟨S4x22x1, .f32⟩
  | 84 => ⟨S4x22, .f32⟩
  | 85 => ⟨S_, .f32⟩
  | 86 => ⟨S4x22, .f32⟩
  | 87 => ⟨S4x22, .f32⟩
  | 88 => ⟨S_, .f32⟩
  | 89 => ⟨S4x22, .f32⟩
  | 90 => ⟨S4x22, .f32⟩
  | 91 => ⟨S4x22, .f32⟩
  | 92 => ⟨S4x22x1, .f32⟩
  | 93 => ⟨S4x22, .f32⟩
  | 94 => ⟨S4x22x1, .f32⟩
  | 95 => ⟨S4x22, .f32⟩
  | 96 => ⟨S4x22, .f32⟩
  | 97 => ⟨S4x22, .f32⟩
  | 98 => ⟨S4x22, .f32⟩
  | 99 => ⟨S4x22x1, .f32⟩
  | 100 => ⟨S4x22, .f32⟩
  | 101 => ⟨S_, .f32⟩
  | 102 => ⟨S4x22, .f32⟩
  | 103 => ⟨S4x22, .f32⟩
  | 104 => ⟨S_, .f32⟩
  | 105 => ⟨S4x22, .f32⟩
  | 106 => ⟨S4x22, .f32⟩
  | 107 => ⟨S4x22, .f32⟩
  | 108 => ⟨S4x22x1, .f32⟩
  | 109 => ⟨S4x22x1, .f32⟩
  | 110 => ⟨S4x22x2, .f32⟩
  | 111 => ⟨S4x22x1, .f32⟩
  | 112 => ⟨S4x22x1, .f32⟩
  | 113 => ⟨S4x22x2, .f32⟩
  | 114 => ⟨S1x6600x1x2, .f32⟩
  | 115 => ⟨S4x1x22x2, .f32⟩
  | 116 => ⟨S4x6600x22x2, .f32⟩
  | 117 => ⟨S4x6600x22x2, .f32⟩
  | 118 => ⟨S4x6600x22x2, .f32⟩
  | 119 => ⟨S4x6600x22x2, .f32⟩
  | 120 => ⟨S_, .f32⟩
  | 121 => ⟨S4x6600x22, .f32⟩
  | 122 => ⟨S4x6600x22, .f32⟩
  | 123 => ⟨S4x1x22x2, .f32⟩
  | 124 => ⟨S4x6600x22x2, .f32⟩
  | 125 => ⟨S4x6600x22x2, .f32⟩
  | 126 => ⟨S_, .f32⟩
  | 127 => ⟨S4x6600x22, .f32⟩
  | _ => ⟨S4x22x12, .f32⟩

abbrev hbmTy0_1 (i : Nat) : BufTy := match i % 128 with
  | 0 => ⟨S4x6600x22, .f32⟩
  | 1 => ⟨S_, .f32⟩
  | 2 => ⟨S4x6600x22, .f32⟩
  | 3 => ⟨S4x6600x22, .f32⟩
  | 4 => ⟨S4x6600x22, .f32⟩
  | 5 => ⟨S4x6600x22, .f32⟩
  | 6 => ⟨S4x6600x22, .f32⟩
  | 7 => ⟨S4x6600x22, .f32⟩
  | 8 => ⟨S4x6600x22, .f32⟩
  | 9 => ⟨S4x6600x22, .f32⟩
  | 10 => ⟨S4x6600x22, .f32⟩
  | 11 => ⟨S4x6600x22, .f32⟩
  | 12 => ⟨S_, .f32⟩
  | 13 => ⟨S4x6600x22, .f32⟩
  | 14 => ⟨S4x6600x22, .f32⟩
  | 15 => ⟨S4x6600x22, .f32⟩
  | 16 => ⟨S4x6600x22, .i1⟩
  | 17 => ⟨S4x6600x22, .f32⟩
  | 18 => ⟨S4x6600x22, .f32⟩
  | 19 => ⟨S4x6600x22, .f32⟩
  | 20 => ⟨S4x6600x22, .f32⟩
  | 21 => ⟨S4x6600x22, .f32⟩
  | 22 => ⟨S4x6600x22, .f32⟩
  | 23 => ⟨S_, .f32⟩
  | 24 => ⟨S4x6600x22, .f32⟩
  | 25 => ⟨S4x6600x22, .f32⟩
  | 26 => ⟨S4x6600x22, .f32⟩
  | 27 => ⟨S4x6600x22, .f32⟩
  | 28 => ⟨S4x6600x22, .f32⟩
  | 29 => ⟨S4x6600x22, .f32⟩
  | 30 => ⟨S4x6600x22, .f32⟩
  | 31 => ⟨S4x6600x22, .f32⟩
  | 32 => ⟨S4x6600x22, .f32⟩
  | 33 => ⟨S_, .f32⟩
  | 34 => ⟨S4x6600x22, .f32⟩
  | 35 => ⟨S4x6600x22, .f32⟩
  | 36 => ⟨S4x6600x22, .f32⟩
  | 37 => ⟨S4x6600x22, .f32⟩
  | 38 => ⟨S4x6600x22, .f32⟩
  | 39 => ⟨S4x6600x22, .f32⟩
  | 40 => ⟨S4x6600x22, .f32⟩
  | 41 => ⟨S4x6600x22, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S1x1x40x1, .f32⟩
  | 49 => ⟨S4x6600x1x22, .f32⟩
  | 50 => ⟨S4x6600x40x22, .f32⟩
  | 51 => ⟨S4x6600x40x22, .f32⟩
  | 52 => ⟨S4x6600x40x22, .f32⟩
  | 53 => ⟨S4x6600x40x22, .f32⟩
  | 54 => ⟨S4x6600x40x22, .f32⟩
  | 55 => ⟨S4x6600x40x22, .f32⟩
  | 56 => ⟨S4x6600x40x22, .f32⟩
  | 57 => ⟨S_, .f32⟩
  | 58 => ⟨S4x6600x40x22, .f32⟩
  | 59 => ⟨S4x6600x40x22, .f32⟩
  | 60 => ⟨S_, .f32⟩
  | 61 => ⟨S4x6600x40x22, .f32⟩
  | 62 => ⟨S4x6600x40x22, .f32⟩
  | _ => ⟨S4x22x12, .f32⟩

abbrev hbmTy (i : Nat) : BufTy := match i / 128 with
  | 0 => hbmTy0_0 i
  | 1 => hbmTy0_1 i
  | _ => ⟨S4x22x12, .f32⟩

abbrev bufTy : (tb : Table) → Fin (tcTables nBuf tb) → BufTy
  | .hbm, ⟨i, _⟩ => hbmTy i
  | _, _ => ⟨S4x22x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_cst : Ref sig .tc := ⟨.hbm, 11, rfl⟩
abbrev main_call0_v3 : Ref sig .tc := ⟨.hbm, 12, rfl⟩
abbrev main_call0_v4 : Ref sig .tc := ⟨.hbm, 13, rfl⟩
abbrev main_call0_cst_0 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_cst_1 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_v0 : Ref sig .tc := ⟨.hbm, 28, rfl⟩
abbrev main_cst_2 : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_cst : Ref sig .tc := ⟨.hbm, 34, rfl⟩
abbrev main_call1_v3 : Ref sig .tc := ⟨.hbm, 35, rfl⟩
abbrev main_call1_v4 : Ref sig .tc := ⟨.hbm, 36, rfl⟩
abbrev main_call1_cst_0 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_cst_1 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_v15 : Ref sig .tc := ⟨.hbm, 49, rfl⟩
abbrev main_call1_v16 : Ref sig .tc := ⟨.hbm, 50, rfl⟩
abbrev main_v1 : Ref sig .tc := ⟨.hbm, 51, rfl⟩
abbrev main_c : Ref sig .tc := ⟨.hbm, 52, rfl⟩
abbrev main_v2 : Ref sig .tc := ⟨.hbm, 53, rfl⟩
abbrev main_cst_4 : Ref sig .tc := ⟨.hbm, 54, rfl⟩
abbrev main_v3 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_cst_5 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_cst_6 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_call2_v0 : Ref sig .tc := ⟨.hbm, 119, rfl⟩
abbrev main_call2_cst : Ref sig .tc := ⟨.hbm, 120, rfl⟩
abbrev main_call2_v1 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_cst_7 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_call3_v0 : Ref sig .tc := ⟨.hbm, 130, rfl⟩
abbrev main_call3_v1 : Ref sig .tc := ⟨.hbm, 131, rfl⟩
abbrev main_call3_v2 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_cst_8 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_cst_9 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_cst_10 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_cst_11 : Ref sig .tc := ⟨.hbm, 170, rfl⟩
abbrev main_v106 : Ref sig .tc := ⟨.hbm, 171, rfl⟩
abbrev main_cst_12 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_cst_13 : Ref sig .tc := ⟨.hbm, 185, rfl⟩
abbrev main_v119 : Ref sig .tc := ⟨.hbm, 186, rfl⟩
abbrev main_v120 : Ref sig .tc := ⟨.hbm, 187, rfl⟩
abbrev main_cst_14 : Ref sig .tc := ⟨.hbm, 188, rfl⟩
abbrev main_v121 : Ref sig .tc := ⟨.hbm, 189, rfl⟩
abbrev main_v122 : Ref sig .tc := ⟨.hbm, 190, rfl⟩

abbrev nD : Nat := 1
abbrev τ : Topo := Topo.v7x

variable {F : FTy → Type} [FloatOps F]
-- ==== Proof.Words.lean ====
/- Which real number a printed `f32` word stands for over the extended reals: the constants of the two programs, and
   the two tables of field coordinates that the kernel holds. -/
module

public import proofs.«01_k».proof.Proof.Gen.KernelIdeal
public import Idealize.ShloMosaic.PureOps.Ideal.Laws
public import Idealize.ShloMosaic.Lib.IdealHost

@[expose] public section

noncomputable section

namespace Cert.Field

open Idealize.ShloMosaic

/-- The exponent field of an `f32` word. -/
def expField (w : BitVec 32) : Nat := (w.extractLsb' 23 8).toNat
/-- The fraction field of an `f32` word. -/
def fracField (w : BitVec 32) : Nat := (w.extractLsb' 0 23).toNat
/-- Whether the sign bit of an `f32` word is set. -/
def signField (w : BitVec 32) : Bool := w.extractLsb' 31 1 == 1#1

/-- A word whose exponent is neither all zeros nor all ones stands for its sign times its significand times a power
    of two. -/
theorem ofBits_normal (w : BitVec 32) (h0 : expField w ≠ 0) (h1 : expField w ≠ 255) :
    Ideal.ofBits .f32 w
      = (((if signField w then (-1 : ℝ) else 1) * ((2 ^ 23 + fracField w : ℕ) : ℝ)
          * (2 : ℝ) ^ ((expField w : ℤ) - 150) : ℝ) : EReal) := by
  unfold expField at h0 h1
  simp only [Ideal.ofBits, Ideal.ieee, signField, fracField, expField]
  rw [if_neg (by simpa using h1), if_neg h0]
  norm_num [sub_sub]

/-- A word whose exponent is not all ones stands for a real number. -/
theorem ofBits_real (w : BitVec 32) (h1 : expField w ≠ 255) : ∃ r : ℝ, Ideal.ofBits .f32 w = (r : EReal) := by
  unfold expField at h1
  simp only [Ideal.ofBits, Ideal.ieee]
  rw [if_neg (by simpa using h1)]
  split
  · exact ⟨_, rfl⟩
  · exact ⟨_, rfl⟩

/-- The word is positive and normal, and twice its value is the odd number `2 n + 1`, in whole numbers. -/
def isHalf (w : BitVec 32) (n : Nat) : Bool :=
  !signField w && expField w != 0 && expField w != 255
    && (2 ^ 23 + fracField w) * 2 * 2 ^ expField w == (2 * n + 1) * 2 ^ 150

/-- A word that passes the test above stands for `n + 1/2`. -/
theorem ofBits_half {w : BitVec 32} {n : Nat} (h : isHalf w n = true) :
    Ideal.ofBits .f32 w = (((n : ℝ) + 1 / 2 : ℝ) : EReal) := by
  simp only [isHalf, Bool.and_eq_true, Bool.not_eq_true', bne_iff_ne, beq_iff_eq] at h
  obtain ⟨⟨⟨hs, h0⟩, h1⟩, hv⟩ := h
  rw [ofBits_normal w h0 h1, hs, EReal.coe_eq_coe_iff]
  have hv' : ((2 ^ 23 + fracField w : ℕ) : ℝ) * 2 * 2 ^ expField w = (2 * n + 1) * 2 ^ 150 := by exact_mod_cast hv
  have hz : (2 : ℝ) ^ ((expField w : ℤ) - 150) = 2 ^ expField w / 2 ^ 150 := by
    rw [zpow_sub₀ (by norm_num : (2 : ℝ) ≠ 0)]
    norm_cast
  rw [hz]
  simp only [Bool.false_eq_true, if_false, one_mul]
  have hp : (2 : ℝ) ^ 150 ≠ 0 := by positivity
  generalize (2 : ℝ) ^ 150 = P at hv' hp ⊢
  generalize (2 : ℝ) ^ expField w = E at hv' ⊢
  generalize ((2 ^ 23 + fracField w : ℕ) : ℝ) = S at hv' ⊢
  rw [← mul_div_assoc, div_eq_iff hp]
  linear_combination hv' / 2

/-- The word `0.5` stands for one half. -/
theorem half_word : Ideal.ofBits .f32 0x3F000000#32 = ((1 / 2 : ℝ) : EReal) := by
  rw [ofBits_half (n := 0) (by decide +kernel)]
  norm_num

/-- The word `2.0` stands for two. -/
theorem two_word : Ideal.ofBits .f32 0x40000000#32 = ((2 : ℝ) : EReal) := by
  rw [ofBits_normal _ (by decide +kernel) (by decide +kernel)]
  rw [show expField 0x40000000#32 = 128 by decide +kernel, show fracField 0x40000000#32 = 0 by decide +kernel,
    show signField 0x40000000#32 = false by decide +kernel]
  norm_num [zpow_neg]

end Cert.Field

end
-- ==== Proof.Arrival.lean ====
/- The arithmetic of one entry of the result, over the extended reals: how fast a player approaches a point, when it
   arrives there, and how likely it is to have arrived by a given time. The kernel and the reference write parts of
   it differently; the last theorems say that the two ways of writing agree. -/
module

public import proofs.«01_k».proof.Proof.Words

@[expose] public section

noncomputable section

namespace Cert.Field

open Idealize.ShloMosaic

/-! ## What both programs write alike -/

/-- The velocity after the reaction time `r`: `v` before it, under acceleration `a`. -/
def vel (v a r : EReal) : EReal := a * r + v

/-- The distance between two points whose coordinates differ by `dx` and `dy`. -/
def dist (dx dy : EReal) : EReal := Ideal.sqrt (dx * dx + dy * dy)

/-- The speed at which velocity `(vx, vy)` closes the difference `(dx, dy)`, kept between `-sm` and `sm`. -/
def closing (sm dx dy vx vy : EReal) : EReal :=
  min sm (max (-sm) (Ideal.div (dx * vx + dy * vy) (dist dx dy)))

/-- The time from speed `s` to the greatest speed `sm` at acceleration `am`. -/
def upTime (am sm s : EReal) : EReal := Ideal.div (sm - s) am

/-- The steepness of the arrival curve: pi over the square root of three, over sigma. -/
def steep (sg : EReal) : EReal :=
  Ideal.div (Ideal.div (Ideal.ofBits .f32 0x40490FDB#32) (Ideal.sqrt (Ideal.ofBits .f32 0x40400000#32))) sg

/-! ## What the kernel writes -/

namespace K

/-- The place after the reaction time. -/
def place (p v a r : EReal) : EReal := p + v * r + Ideal.ofBits .f32 0x3F000000#32 * a * r * r

/-- The way made good while speeding up: the time, times twice the mean speed, times one half. -/
def upWay (am sm s : EReal) : EReal := upTime am sm s * (s + sm) * Ideal.ofBits .f32 0x3F000000#32

/-- The time to arrive over a distance `d` from closing speed `s`. -/
def arrive (rt am sm d s : EReal) : EReal :=
  rt + Scalar.select (Ideal.cmp .ogt (upWay am sm s) d)
      (-(Ideal.div s am)
        + Ideal.sqrt (Ideal.div s am * Ideal.div s am + Ideal.div (Ideal.ofBits .f32 0x40000000#32 * d) am))
      (upTime am sm s)
    + Ideal.div (d - max (min (upWay am sm s) d) 0) sm

/-- The chance of having arrived by time `t` when arrival takes time `a`, the exponential split in two factors. -/
def chance (sg t a : EReal) : EReal :=
  Ideal.div 1 (Ideal.exp (-(steep sg) * t) * Ideal.exp (steep sg * a) + 1)

/-- One entry of the result from the parameters, the time asked about, the point `(fx, fy)` of the field and the
    player's place, velocity and acceleration. -/
def entry (sg am sm rt t fx fy px py vx vy ax ay : EReal) : EReal :=
  chance sg t (arrive rt am sm (dist (fx - place px vx ax rt) (fy - place py vy ay rt))
    (closing sm (fx - place px vx ax rt) (fy - place py vy ay rt) (vel vx ax rt) (vel vy ay rt)))

end K

/-! ## What the reference writes -/

namespace R

/-- The place after the reaction time. -/
def place (p v a r : EReal) : EReal := p + v * r + Ideal.ofBits .f32 0x3F000000#32 * a * (r * r)

/-- The way made good while speeding up: the time, times the mean of the two speeds. -/
def upWay (am sm s : EReal) : EReal := upTime am sm s * Ideal.div (s + sm) (Ideal.ofBits .f32 0x40000000#32)

/-- The time to arrive over a distance `d` from closing speed `s`. -/
def arrive (rt am sm d s : EReal) : EReal :=
  rt + Scalar.select (Ideal.cmp .ogt (upWay am sm s) d)
      (Ideal.div (-s) am
        + Ideal.sqrt (Ideal.div s am * Ideal.div s am + Ideal.div (Ideal.ofBits .f32 0x40000000#32 * d) am))
      (upTime am sm s)
    + Ideal.div (d - max (min (upWay am sm s) d) 0) sm

/-- The chance of having arrived by time `t` when arrival takes time `a`: the logistic curve at `t - a`. -/
def chance (sg t a : EReal) : EReal := Ideal.div 1 (1 + Ideal.exp (-(steep sg * (t - a))))

/-- One entry of the result. -/
def entry (sg am sm rt t fx fy px py vx vy ax ay : EReal) : EReal :=
  chance sg t (arrive rt am sm (dist (fx - place px vx ax rt) (fy - place py vy ay rt))
    (closing sm (fx - place px vx ax rt) (fy - place py vy ay rt) (vel vx ax rt) (vel vy ay rt)))

end R

/-! ## The two agree -/

/-- Division by anything but zero is multiplication by the inverse. -/
theorem div_of_ne {x y : EReal} (h : y ≠ 0) : Ideal.div x y = x * y⁻¹ := if_neg h

theorem place_eq (p v a r : EReal) : K.place p v a r = R.place p v a r := by
  unfold K.place R.place
  rw [mul_assoc _ r r]

theorem upWay_eq (am sm s : EReal) : K.upWay am sm s = R.upWay am sm s := by
  unfold K.upWay R.upWay
  rw [two_word, half_word, div_of_ne (by norm_num : ((2 : ℝ) : EReal) ≠ 0), ← EReal.coe_inv, mul_assoc]
  norm_num

/-- A quotient's sign may be taken before or after the division, when the divisor is not zero. -/
theorem div_neg_left {x y : EReal} (h : y ≠ 0) : Ideal.div (-x) y = -Ideal.div x y := by
  rw [div_of_ne h, div_of_ne h, EReal.neg_mul]

theorem arrive_eq {am : EReal} (h : am ≠ 0) (rt sm d s : EReal) : K.arrive rt am sm d s = R.arrive rt am sm d s := by
  unfold K.arrive R.arrive
  rw [upWay_eq, div_neg_left h]

/-- The steepness is a real number, when sigma is not zero. -/
theorem steep_real {sg : EReal} (h : sg ≠ 0) : ∃ k : ℝ, steep sg = (k : EReal) := by
  obtain ⟨p, hp⟩ := ofBits_real 0x40490FDB#32 (by decide +kernel)
  have h3 : Ideal.ofBits .f32 0x40400000#32 = ((3 : ℝ) : EReal) := by
    rw [ofBits_normal _ (by decide +kernel) (by decide +kernel)]
    rw [show expField 0x40400000#32 = 128 by decide +kernel,
      show fracField 0x40400000#32 = 4194304 by decide +kernel,
      show signField 0x40400000#32 = false by decide +kernel]
    norm_num [zpow_neg]
  have hs : Ideal.sqrt ((3 : ℝ) : EReal) = ((Real.sqrt 3 : ℝ) : EReal) := if_neg (by norm_num)
  have h0 : ((Real.sqrt 3 : ℝ) : EReal) ≠ 0 := by
    rw [Ne, EReal.coe_eq_zero]; positivity
  unfold steep
  rw [hp, h3, hs, div_of_ne h0, div_of_ne h, ← EReal.coe_inv, ← EReal.coe_mul]
  induction sg with
  | bot => exact ⟨0, by simp⟩
  | top => exact ⟨0, by simp⟩
  | coe x => exact ⟨_, by rw [← EReal.coe_inv, ← EReal.coe_mul]⟩

/-- The exponential of a difference is the product of the two exponentials, for a real steepness and a real time,
    whatever the arrival takes: a real time, or no time that is finite. -/
theorem exp_split (k t : ℝ) (a : EReal) :
    Ideal.exp (-(k : EReal) * t) * Ideal.exp (k * a) = Ideal.exp (-((k : EReal) * (t - a))) := by
  have e : Ideal.exp (-(k : EReal) * t) = ((Real.exp (-k * t) : ℝ) : EReal) := by
    rw [← EReal.coe_neg, ← EReal.coe_mul]; rfl
  have e0 : Ideal.exp 0 = 1 := by
    show ((Real.exp 0 : ℝ) : EReal) = 1
    simp
  have pos : (0 : ℝ) < Real.exp (-k * t) := Real.exp_pos _
  rw [e]
  induction a with
  | coe x =>
    rw [← EReal.coe_mul, ← EReal.coe_sub, ← EReal.coe_mul, ← EReal.coe_neg]
    show ((Real.exp (-k * t) : ℝ) : EReal) * ((Real.exp (k * x) : ℝ) : EReal)
      = ((Real.exp (-(k * (t - x))) : ℝ) : EReal)
    rw [← EReal.coe_mul, ← Real.exp_add]
    congr 2
    ring
  | top =>
    rw [show (t : EReal) - ⊤ = ⊥ from rfl]
    rcases lt_trichotomy k 0 with hk | rfl | hk
    · rw [EReal.coe_mul_top_of_neg hk, EReal.coe_mul_bot_of_neg hk, EReal.neg_top]
      show _ * (0 : EReal) = (0 : EReal)
      simp
    · simp [e0]
    · rw [EReal.coe_mul_top_of_pos hk, EReal.coe_mul_bot_of_pos hk, EReal.neg_bot]
      show _ * (⊤ : EReal) = (⊤ : EReal)
      exact EReal.coe_mul_top_of_pos pos
  | bot =>
    rw [show (t : EReal) - ⊥ = ⊤ from rfl]
    rcases lt_trichotomy k 0 with hk | rfl | hk
    · rw [EReal.coe_mul_top_of_neg hk, EReal.coe_mul_bot_of_neg hk, EReal.neg_bot]
      show _ * (⊤ : EReal) = (⊤ : EReal)
      exact EReal.coe_mul_top_of_pos pos
    · simp [e0]
    · rw [EReal.coe_mul_top_of_pos hk, EReal.coe_mul_bot_of_pos hk, EReal.neg_top]
      show _ * (0 : EReal) = (0 : EReal)
      simp

theorem chance_eq {sg : EReal} (h : sg ≠ 0) (t : ℝ) (a : EReal) : K.chance sg t a = R.chance sg t a := by
  obtain ⟨k, hk⟩ := steep_real h
  unfold K.chance R.chance
  rw [hk, exp_split, add_comm]

/-- The kernel's entry is the reference's, for a time that is real, whatever the frame, the speed and the reaction time
    are, when neither sigma nor the acceleration is zero. -/
theorem entry_eq {sg am t : EReal} (hs : sg ≠ 0) (ha : am ≠ 0) (ht : ∃ r : ℝ, t = (r : EReal))
    (sm rt fx fy px py vx vy ax ay : EReal) :
    K.entry sg am sm rt t fx fy px py vx vy ax ay = R.entry sg am sm rt t fx fy px py vx vy ax ay := by
  obtain ⟨r, rfl⟩ := ht
  unfold K.entry R.entry
  rw [chance_eq hs, arrive_eq ha, place_eq, place_eq]

end Cert.Field

end
-- ==== Proof.Block.lean ====
/- What one grid point of the kernel leaves in its block of the result, entry by entry. -/
module

public import proofs.«01_k».proof.Proof.Arrival
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Field

open Idealize.ShloMosaic Cert.KernelIdeal Cert.KernelIdeal.Gen

/-! ## The parts of the body's arithmetic, each at an index -/

section Parts

variable (x0 : Vec Ideal S1x22x12 .f32) (x7 : Vec Ideal S1x1 .f32) (j : Fin 22)

theorem velX_at : k0_pay11 x0 x7 (ix2 j 0) = vel (x0 (ix3 0 j 3)) (x0 (ix3 0 j 5)) (x7 (ix2 0 0)) := by
  pointwise [k0_pay11, k0_pay10, k0_pay5, k0_pay3, k0_pay2, vel]

theorem velY_at : k0_pay12 x0 x7 (ix2 j 0) = vel (x0 (ix3 0 j 4)) (x0 (ix3 0 j 6)) (x7 (ix2 0 0)) := by
  pointwise [k0_pay12, k0_pay10, k0_pay6, k0_pay4, k0_pay2, vel]

theorem placeX_at :
    k0_pay13 x0 x7 (ix2 j 0) = K.place (x0 (ix3 0 j 1)) (x0 (ix3 0 j 3)) (x0 (ix3 0 j 5)) (x7 (ix2 0 0)) := by
  pointwise [k0_pay13, k0_pay10, k0_pay5, k0_pay3, k0_pay2, K.place]

theorem placeY_at :
    k0_pay14 x0 x7 (ix2 j 0) = K.place (x0 (ix3 0 j 2)) (x0 (ix3 0 j 4)) (x0 (ix3 0 j 6)) (x7 (ix2 0 0)) := by
  pointwise [k0_pay14, k0_pay10, k0_pay6, k0_pay4, k0_pay2, K.place]

variable (am sm : Ideal .f32) (vx vy px py : FVec Ideal S22x1 .f32) (x1 x2 : Vec Ideal S1x1x3328 .f32) (f : Fin 3328)

theorem dist_at :
    k0_pay17 px py x1 x2 (ix2 j f) = dist (x1 (ix3 0 0 f) - px (ix2 j 0)) (x2 (ix3 0 0 f) - py (ix2 j 0)) := by
  pointwise [k0_pay17, k0_pay15, k0_pay16, dist]

theorem closing_at :
    k0_pay18 sm vx vy px py x1 x2 (ix2 j f)
      = closing sm (x1 (ix3 0 0 f) - px (ix2 j 0)) (x2 (ix3 0 0 f) - py (ix2 j 0)) (vx (ix2 j 0)) (vy (ix2 j 0)) := by
  unfold closing
  rw [← dist_at j px py x1 x2 f]
  pointwise [k0_pay18, k0_pay15, k0_pay16]
  rw [zero_sub]

theorem upTime_at :
    k0_pay19 am sm vx vy px py x1 x2 (ix2 j f) = upTime am sm (k0_pay18 sm vx vy px py x1 x2 (ix2 j f)) := by
  pointwise [k0_pay19, upTime]

theorem upWay_at :
    k0_pay20 am sm vx vy px py x1 x2 (ix2 j f) = K.upWay am sm (k0_pay18 sm vx vy px py x1 x2 (ix2 j f)) := by
  unfold K.upWay
  rw [← upTime_at]
  pointwise [k0_pay20]

theorem accel_at :
    k0_pay21 am sm vx vy px py x1 x2 (ix2 j f)
      = Scalar.select
          (Ideal.cmp .ogt (K.upWay am sm (k0_pay18 sm vx vy px py x1 x2 (ix2 j f))) (k0_pay17 px py x1 x2 (ix2 j f)))
          (-(Ideal.div (k0_pay18 sm vx vy px py x1 x2 (ix2 j f)) am)
            + Ideal.sqrt (Ideal.div (k0_pay18 sm vx vy px py x1 x2 (ix2 j f)) am
                * Ideal.div (k0_pay18 sm vx vy px py x1 x2 (ix2 j f)) am
              + Ideal.div (Ideal.ofBits .f32 0x40000000#32 * k0_pay17 px py x1 x2 (ix2 j f)) am))
          (upTime am sm (k0_pay18 sm vx vy px py x1 x2 (ix2 j f))) := by
  rw [← upWay_at, ← upTime_at]
  pointwise [k0_pay21]
  simp only [zero_sub]

theorem way_at :
    k0_pay22 am sm vx vy px py x1 x2 (ix2 j f)
      = max (min (K.upWay am sm (k0_pay18 sm vx vy px py x1 x2 (ix2 j f))) (k0_pay17 px py x1 x2 (ix2 j f))) 0 := by
  rw [← upWay_at]
  pointwise [k0_pay22]

theorem chance_at (sg : Ideal .f32) (d w u r : FVec Ideal S22x3328 .f32) (x3 : Vec Ideal S40x1 .f32) (t : Fin 40) :
    k0_pay1 sg sm d w u r x3 (ix4 0 j t f)
      = K.chance sg (x3 (ix2 t 0)) (r (ix2 j f) + w (ix2 j f) + Ideal.div (d (ix2 j f) - u (ix2 j f)) sm) := by
  pointwise [k0_pay1, K.chance, steep]
  simp only [zero_sub]
  rfl

theorem react_at (r : Ideal .f32) : k0_pay23 r (ix2 j f) = r := by
  pointwise [k0_pay23]

/-- The four parameters arrive in arrays of one entry. -/
theorem params_at (x : Vec Ideal S1x1 .f32) :
    k0_pay7 x = x (ix2 0 0) ∧ k0_pay8 x = x (ix2 0 0) ∧ k0_pay9 x = x (ix2 0 0) ∧ k0_pay10 x = x (ix2 0 0) := by
  pointwise [k0_pay7, k0_pay8, k0_pay9, k0_pay10]

end Parts

variable (x0 : Vec Ideal S1x22x12 .f32) (x1 x2 : Vec Ideal S1x1x3328 .f32) (x3 : Vec Ideal S40x1 .f32)
  (x4 x5 x6 x7 : Vec Ideal S1x1 .f32)

theorem block_entry (j : Fin 22) (t : Fin 40) (f : Fin 3328) :
    out0_8 x0 x1 x2 x3 x4 x5 x6 x7 (ix4 0 j t f)
      = K.entry (x4 (ix2 0 0)) (x5 (ix2 0 0)) (x6 (ix2 0 0)) (x7 (ix2 0 0)) (x3 (ix2 t 0))
          (x1 (ix3 0 0 f)) (x2 (ix3 0 0 f)) (x0 (ix3 0 j 1)) (x0 (ix3 0 j 2)) (x0 (ix3 0 j 3)) (x0 (ix3 0 j 4))
          (x0 (ix3 0 j 5)) (x0 (ix3 0 j 6)) := by
  unfold_out out0_8
  frame_out
  rw [chance_at, accel_at, way_at, closing_at, dist_at, velX_at, velY_at, placeX_at, placeY_at, react_at,
    (params_at x4).1, (params_at x5).2.1, (params_at x6).2.2.1, (params_at x7).2.2.2]
  rfl

end Cert.Field

end
-- ==== Proof.KernelValue.lean ====
/- What the kernel's array holds after the region, entry by entry over the arguments: the grid's blocks put together. -/
module

public import proofs.«01_k».proof.Proof.Block

@[expose] public section

set_option maxRecDepth 16384

noncomputable section

namespace Cert.Field

open Idealize.ShloMosaic Idealize.ShloMosaic.TcCoe Idealize.SL.Sem Cert.KernelIdeal Cert.KernelIdeal.Gen

variable (m : (ℓ : Loc nD τ sig) → Buf (Elt Ideal) ℓ)

/-- Which block of its array each window holds at a grid point: the frame is the point's half, the part of the field
    its parity. -/
theorem idx : ∀ t : Fin cfg0.N, win0_0.index t = ![t.val / 2, 0, 0] ∧ win0_1.index t = ![t.val % 2, 0, 0]
    ∧ win0_2.index t = ![t.val % 2, 0, 0] ∧ win0_3.index t = ![0, 0] ∧ win0_4.index t = ![0, 0]
    ∧ win0_5.index t = ![0, 0] ∧ win0_6.index t = ![0, 0] ∧ win0_7.index t = ![0, 0]
    ∧ win0_8.index t = ![t.val / 2, 0, 0, t.val % 2] :=
  (by decide +kernel : ∀ t : Fin grid0.N, _)

/-! ## What the arrays that the windows read hold when the region starts -/

section Entry

variable (c : Dev nD)

theorem entry_x : V m c main_cst = fun i => Ideal.ofBits .f32 (lit0 (S2x1x3328.rowMajor i)) := by
  unfold V V0
  simp only [List.flatten_cons, List.flatten_nil, List.append_nil]
  after_results_simp
  rfl

theorem entry_y : V m c main_cst_0 = fun i => Ideal.ofBits .f32 (lit1 (S2x1x3328.rowMajor i)) := by
  unfold V V0
  simp only [List.flatten_cons, List.flatten_nil, List.append_nil]
  after_results_simp
  rfl

theorem entry_t : V m c main_cst_1 = fun i => Ideal.ofBits .f32 (lit2 (S40x1.rowMajor i)) := by
  unfold V V0
  simp only [List.flatten_cons, List.flatten_nil, List.append_nil]
  after_results_simp
  rfl

/-- The four parameters are the arguments 1 to 4, as arrays of one entry. -/
theorem entry_params :
    V m c main_v0 = shapeCast S1x1 (m ((c : Thread nD τ).loc main_arg1)) shapeCasts_S_S1x1
    ∧ V m c main_v1 = shapeCast S1x1 (m ((c : Thread nD τ).loc main_arg2)) shapeCasts_S_S1x1
    ∧ V m c main_v2 = shapeCast S1x1 (m ((c : Thread nD τ).loc main_arg3)) shapeCasts_S_S1x1
    ∧ V m c main_v3 = shapeCast S1x1 (m ((c : Thread nD τ).loc main_arg4)) shapeCasts_S_S1x1 := by
  unfold V V0
  simp only [List.flatten_cons, List.flatten_nil, List.append_nil]
  refine ⟨?_, ?_, ?_, ?_⟩ <;> (after_results_simp; rfl)

end Entry

/-! ## What the windows' blocks hold at a grid point -/

section Reads

variable (c : Dev nD) (t : Fin cfg0.N)

/-- The frame's block: frame `t / 2` of the argument. -/
theorem frame_read (j : Fin 22) (k : Fin 12) (b : Fin 4) (hb : (b : ℕ) = t.val / 2) :
    iblk m c 0 t (ix3 0 j k) = m ((c : Thread nD τ).loc main_arg0) (ix3 b j k) := by
  blk_ext [iblk, V, idx t]

/-- Entry `f` of the table of coordinates at part `g` is that of point `3328 g + f`. -/
theorem table_point (g : Fin 2) (f : Fin 3328) (p : Fin 6656) (hp : (p : ℕ) = g * 3328 + f) :
    S2x1x3328.rowMajor (ix3 g 0 f) = p :=
  Fin.ext ((rowMajor_val3 (d := S2x1x3328.size) (ix3 g 0 f) 3328 3328 rfl rfl).trans (by rw [hp]; simp))

/-- The block of x coordinates: its entry `f` belongs to point `3328 (t % 2) + f`. -/
theorem x_read (f : Fin 3328) (p : Fin 6656) (hp : (p : ℕ) = t.val % 2 * 3328 + f) :
    iblk m c 1 t (ix3 0 0 f) = Ideal.ofBits .f32 (lit0 p) := by
  have e : iblk m c 1 t (ix3 0 0 f) = V m c main_cst (ix3 ⟨t.val % 2, by omega⟩ 0 f) := by
    blk_ext [iblk, idx t]
  rw [e, entry_x]
  exact congrArg (fun i => Ideal.ofBits .f32 (lit0 i)) (table_point _ f p hp)

theorem y_read (f : Fin 3328) (p : Fin 6656) (hp : (p : ℕ) = t.val % 2 * 3328 + f) :
    iblk m c 2 t (ix3 0 0 f) = Ideal.ofBits .f32 (lit1 p) := by
  have e : iblk m c 2 t (ix3 0 0 f) = V m c main_cst_0 (ix3 ⟨t.val % 2, by omega⟩ 0 f) := by
    blk_ext [iblk, idx t]
  rw [e, entry_y]
  exact congrArg (fun i => Ideal.ofBits .f32 (lit1 i)) (table_point _ f p hp)

theorem t_read (k : Fin 40) : iblk m c 3 t (ix2 k 0) = Ideal.ofBits .f32 (lit2 k) := by
  have e : iblk m c 3 t (ix2 k 0) = V m c main_cst_1 (ix2 k 0) := by
    blk_ext [iblk, idx t]
  rw [e, entry_t]
  exact congrArg (fun i => Ideal.ofBits .f32 (lit2 i))
    (Fin.ext ((rowMajor_val2 (d := S40x1.size) (ix2 k 0) 1 rfl).trans (by simp)))

theorem sigma_read : iblk m c 4 t (ix2 0 0) = m ((c : Thread nD τ).loc main_arg1) ix0 := by
  have e : iblk m c 4 t (ix2 0 0) = V m c main_v0 (ix2 0 0) := by
    blk_ext [iblk, idx t]
  rw [e, (entry_params m c).1]
  pointwise

theorem accel_read : iblk m c 5 t (ix2 0 0) = m ((c : Thread nD τ).loc main_arg2) ix0 := by
  have e : iblk m c 5 t (ix2 0 0) = V m c main_v1 (ix2 0 0) := by
    blk_ext [iblk, idx t]
  rw [e, (entry_params m c).2.1]
  pointwise

theorem speed_read : iblk m c 6 t (ix2 0 0) = m ((c : Thread nD τ).loc main_arg3) ix0 := by
  have e : iblk m c 6 t (ix2 0 0) = V m c main_v2 (ix2 0 0) := by
    blk_ext [iblk, idx t]
  rw [e, (entry_params m c).2.2.1]
  pointwise

theorem react_read : iblk m c 7 t (ix2 0 0) = m ((c : Thread nD τ).loc main_arg4) ix0 := by
  have e : iblk m c 7 t (ix2 0 0) = V m c main_v3 (ix2 0 0) := by
    blk_ext [iblk, idx t]
  rw [e, (entry_params m c).2.2.2]
  pointwise

end Reads

/-- The entry of the result for frame `b`, player `j`, arrival time `k` and point `p` of the field. -/
def kernelAt (c : Dev nD) (b : Fin 4) (j : Fin 22) (k : Fin 40) (p : Fin 6656) : EReal :=
  K.entry (m ((c : Thread nD τ).loc main_arg1) ix0) (m ((c : Thread nD τ).loc main_arg2) ix0)
    (m ((c : Thread nD τ).loc main_arg3) ix0) (m ((c : Thread nD τ).loc main_arg4) ix0)
    (Ideal.ofBits .f32 (lit2 k)) (Ideal.ofBits .f32 (lit0 p)) (Ideal.ofBits .f32 (lit1 p))
    (m ((c : Thread nD τ).loc main_arg0) (ix3 b j 1)) (m ((c : Thread nD τ).loc main_arg0) (ix3 b j 2))
    (m ((c : Thread nD τ).loc main_arg0) (ix3 b j 3)) (m ((c : Thread nD τ).loc main_arg0) (ix3 b j 4))
    (m ((c : Thread nD τ).loc main_arg0) (ix3 b j 5)) (m ((c : Thread nD τ).loc main_arg0) (ix3 b j 6))

/-- What a grid point leaves at an entry of its block is the result's entry at the place where the block lies. -/
theorem block_read (c : Dev nD) (t : Fin cfg0.N) (j : Fin 22) (k : Fin 40) (f : Fin 3328) (b : Fin 4) (p : Fin 6656)
    (hb : (b : ℕ) = t.val / 2) (hp : (p : ℕ) = t.val % 2 * 3328 + f) :
    out0_8 (iblk m c 0 t) (iblk m c 1 t) (iblk m c 2 t) (iblk m c 3 t) (iblk m c 4 t) (iblk m c 5 t) (iblk m c 6 t)
      (iblk m c 7 t) (ix4 0 j k f) = kernelAt m c b j k p := by
  rw [block_entry, x_read m c t f p hp, y_read m c t f p hp, t_read, sigma_read, accel_read, speed_read, react_read,
    frame_read m c t j 1 b hb, frame_read m c t j 2 b hb, frame_read m c t j 3 b hb, frame_read m c t j 4 b hb,
    frame_read m c t j 5 b hb, frame_read m c t j 6 b hb]
  rfl

/-- The array the region leaves, by frame, player, time and point of the field. -/
theorem region (c : Dev nD) : (dats m 0 c).arrAt 8 (cfgs 0).N = fun i : S4x22x40x6600.Idx =>
    kernelAt m c (i 0) (i 1) (i 2) ((i 3).castLE (by decide)) := by
  refine (dats m 0 c).arrAt_eq_of_covers 8 _ (by decide +kernel) fun t _ y => ?_
  blk_simp
  rw [after0_8]
  -- the entry's place in the block and in the array
  obtain ⟨z, hz⟩ : ∃ z : S1x22x40x3328.Idx, (cfg0.win 8).xinj (cfg0.grid.coords t) y = z := ⟨_, rfl⟩
  obtain ⟨i, hi⟩ : ∃ i : S4x22x40x6600.Idx, (win0_8.blk t).view.emb y = i := ⟨_, rfl⟩
  have h0 : (y 0 : ℕ) = z 0 := by rw [← hz]
  have h1 : (y 1 : ℕ) = z 1 := by rw [← hz]
  have h2 : (y 2 : ℕ) = z 2 := by rw [← hz]
  have h3 : (y 3 : ℕ) = z 3 := by rw [← hz]
  have i0 : (i 0 : ℕ) = t.val / 2 + y 0 := by
    rw [← hi]
    blk_simp [idx t]
  have i1 : (i 1 : ℕ) = y 1 := by
    rw [← hi]
    blk_simp [idx t]
  have i2 : (i 2 : ℕ) = y 2 := by
    rw [← hi]
    blk_simp [idx t]
  have i3 : (i 3 : ℕ) = t.val % 2 * 3328 + y 3 := by
    rw [← hi]
    blk_simp [idx t]
  rw [hz, hi]
  clear hz hi
  rw [h0] at i0
  rw [h1] at i1
  rw [h2] at i2
  rw [h3] at i3
  clear h0 h1 h2 h3
  idx_vars z
  obtain rfl : z0 = 0 := Subsingleton.elim _ _
  refine (block_read m c t z1 z2 z3 (i 0) ((i 3).castLE (by decide)) i0 i3).trans ?_
  rw [show i 1 = z1 from Fin.ext i1, show i 2 = z2 from Fin.ext i2]

end Cert.Field

end
-- ==== Proof.KernelRun.lean ====
/- The kernel's run: the array that the region leaves, its axes put in the order of the result. -/
module

public import proofs.«01_k».proof.Proof.KernelValue
public import Idealize.ShloMosaic.Lib.Claim

@[expose] public section

set_option maxRecDepth 16384

noncomputable section

namespace Cert.Field

open Idealize.ShloMosaic Idealize.ShloMosaic.TcCoe Idealize.SL.Sem Cert.KernelIdeal Cert.KernelIdeal.Gen

/-- After the region, the array of the output window holds `kernelAt`. -/
theorem region_array (m : (ℓ : Loc nD τ sig) → Buf (Elt Ideal) ℓ) (c : Dev nD) :
    Pipeline.withArrays (cfgs 0).spec c (V0 m c) (fun w => (dats m 0 c).arrAt w (cfgs 0).N) (Proc.tc.devRef main_v4)
      = fun i : S4x22x40x6600.Idx => kernelAt m c (i 0) (i 1) (i 2) ((i 3).castLE (by decide)) :=
  (Pipeline.withArrays_arr (cfgs 0).spec
    (by exact (by decide : Function.Injective (Pipeline.arrRef spec0))) c _ _ 8).trans (region m c)

/-- Every execution of the kernel ends with the result at `kernelAt`, its arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5)
        = (fun i : S4x6600x40x22.Idx => kernelAt m c (i 0) (i 3) (i 2) ((i 1).castLE (by decide)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  run_from run_main m ρ
  · unfold Pipeline.afterTail₀
    simp only [hostOps1, List.flatten_cons, List.flatten_nil, List.append_nil]
    after_results_simp
    rw [region_array]
    funext i
    idx_vars i
    pointwise
  · exact W_main_arg1 m (dats m) c
  · exact W_main_arg2 m (dats m) c
  · exact W_main_arg3 m (dats m) c
  · exact W_main_arg4 m (dats m) c

end Cert.Field

end
-- ==== Proof.Tables.lean ====
/- The tables that the kernel holds as constants, entry by entry: the coordinates of the 6600 points of the field, and
   the arrival times asked about. -/
module

public import proofs.«01_k».proof.Proof.Words

@[expose] public section

noncomputable section

namespace Cert.Field

open Idealize.ShloMosaic Cert.KernelIdeal

/-- Row `r`, column `c` of the field is point `120 r + c` of the padded list. -/
def point (r : Fin 55) (c : Fin 120) : Fin 6656 := ⟨r * 120 + c, by omega⟩

/-- Every row's x words are those of the numbers `c + 1/2`. -/
theorem x_words : ∀ (r : Fin 55) (c : Fin 120), isHalf (lit0 (point r c)) c = true := by decide +kernel

/-- The first row's y words are all the word of `-0.2`. -/
theorem y_words_first : ∀ c : Fin 120, lit1 (point 0 c) = 0xBE4CCCCD#32 := by decide +kernel

/-- A later row's y words are those of the numbers `(r - 1) + 1/2`. -/
theorem y_words : ∀ (r : Fin 54) (c : Fin 120), isHalf (lit1 (point r.succ c)) r = true := by decide +kernel

/-- The arrival times are all real numbers. -/
theorem t_words : ∀ i : Fin 40, expField (lit2 i) ≠ 255 := by decide +kernel

/-- The x coordinate of a point of the field. -/
theorem x_entry (r : Fin 55) (c : Fin 120) :
    Ideal.ofBits .f32 (lit0 (point r c)) = (((c : ℕ) + 1 / 2 : ℝ) : EReal) :=
  ofBits_half (x_words r c)

/-- The y coordinate of a point of the field: `-0.2` in the first row, `r - 1/2` in row `r`. -/
theorem y_entry (r : Fin 55) (c : Fin 120) :
    Ideal.ofBits .f32 (lit1 (point r c))
      = if (r : ℕ) = 0 then Ideal.ofBits .f32 0xBE4CCCCD#32 else (((r : ℕ) - 1 / 2 : ℝ) : EReal) := by
  rcases Fin.eq_zero_or_eq_succ r with rfl | ⟨q, rfl⟩
  · rw [y_words_first c]; rfl
  · rw [ofBits_half (y_words q c), if_neg (by simp)]
    congr 1
    push_cast [Fin.val_succ]
    ring

/-- An arrival time is a real number. -/
theorem t_entry (i : Fin 40) : ∃ r : ℝ, Ideal.ofBits .f32 (lit2 i) = (r : EReal) := ofBits_real _ (t_words i)

end Cert.Field

end
-- ==== Proof.RefField.lean ====
/- The coordinates of the field in the reference: two evenly spaced lists of numbers, the first number of the second
   one overwritten. -/
module

public import proofs.«01_k».proof.Proof.Words
public import proofs.«01_k».proof.Proof.Gen.ReferenceIdeal
public import Idealize.ShloMosaic.Lib.Pointwise
public import Idealize.ShloMosaic.Lib.Routing.OpsSet

@[expose] public section

set_option maxRecDepth 16384

noncomputable section

namespace Cert.Field

open Idealize.ShloMosaic Cert.ReferenceIdeal Cert.ReferenceIdeal.Gen

/-! ## Words and counters as real numbers -/

/-- The word `119.0`. -/
theorem word_119 : Ideal.ofBits .f32 0x42EE0000#32 = ((119 : ℝ) : EReal) := by
  rw [ofBits_normal _ (by decide +kernel) (by decide +kernel)]
  rw [show expField 0x42EE0000#32 = 133 by decide +kernel, show fracField 0x42EE0000#32 = 7208960 by decide +kernel,
    show signField 0x42EE0000#32 = false by decide +kernel]
  norm_num [zpow_neg]

/-- The word `54.0`. -/
theorem word_54 : Ideal.ofBits .f32 0x42580000#32 = ((54 : ℝ) : EReal) := by
  rw [ofBits_normal _ (by decide +kernel) (by decide +kernel)]
  rw [show expField 0x42580000#32 = 132 by decide +kernel, show fracField 0x42580000#32 = 5767168 by decide +kernel,
    show signField 0x42580000#32 = false by decide +kernel]
  norm_num [zpow_neg]

/-- The word `-0.5`. -/
theorem word_neg_half : Ideal.ofBits .f32 0xBF000000#32 = ((-1 / 2 : ℝ) : EReal) := by
  rw [ofBits_normal _ (by decide +kernel) (by decide +kernel)]
  rw [show expField 0xBF000000#32 = 126 by decide +kernel, show fracField 0xBF000000#32 = 0 by decide +kernel,
    show signField 0xBF000000#32 = true by decide +kernel]
  norm_num [zpow_neg]

/-- The words `119.5` and `53.5`. -/
theorem word_119_half : Ideal.ofBits .f32 0x42EF0000#32 = (((119 : ℕ) + 1 / 2 : ℝ) : EReal) :=
  ofBits_half (by decide +kernel)
theorem word_53_half : Ideal.ofBits .f32 0x42560000#32 = (((53 : ℕ) + 1 / 2 : ℝ) : EReal) :=
  ofBits_half (by decide +kernel)

/-- A small counter, converted from a word, is the number it counts to. -/
theorem counter {n : ℕ} (h : n < 1000) :
    (FloatOps.sitofp .f32 (BitVec.ofNat 32 n) : Ideal .f32) = (((n : ℕ) : ℝ) : EReal) := by
  have e : (BitVec.ofNat 32 n).toInt = (n : ℤ) := by
    rw [BitVec.toInt_eq_toNat_of_lt (by rw [BitVec.toNat_ofNat]; omega), BitVec.toNat_ofNat]
    omega
  show (((BitVec.ofNat 32 n).toInt : ℝ) : EReal) = _
  rw [e]
  norm_cast

/-- One number of an evenly spaced list, between real ends, with a real and nonzero number of steps. -/
theorem spaced (a b s n : ℝ) (hs : s ≠ 0) :
    (a : EReal) * (1 - Ideal.div (n : EReal) (s : EReal)) + (b : EReal) * Ideal.div (n : EReal) (s : EReal)
      = ((a + (b - a) * (n / s) : ℝ) : EReal) := by
  have e : Ideal.div (n : EReal) (s : EReal) = ((n / s : ℝ) : EReal) := by
    rw [Ideal.div, if_neg (by simpa using hs), ← EReal.coe_inv, ← EReal.coe_mul, div_eq_mul_inv]
  rw [e, show (1 : EReal) = ((1 : ℝ) : EReal) from rfl, ← EReal.coe_sub, ← EReal.coe_mul, ← EReal.coe_mul, ← EReal.coe_add]
  congr 1
  ring

/-! ## The overwritten first number -/

/-- Overwriting at index zero leaves every other entry, and puts the new number at index zero. -/
theorem overwrite (x : FVec Ideal S55 .f32) (u : FVec Ideal S_ .f32) (i : IVec S1 32) (hi : ∀ k, i k = 0#32) (r : Fin 55) :
    Host.scatter scatter_S55_S1_S__n_0_0_0 (fun _ b => b) x i u (ix1 r) = if (r : ℕ) = 0 then u ix0 else x (ix1 r) := by
  have lands (k : S_.Idx) : scatter_S55_S1_S__n_0_0_0.resultIdx? k i = some (ix1 r) ↔ (r : ℕ) = 0 := by
    rw [Routing.resultIdx?_eq_some]
    have hs (a) : scatter_S55_S1_S__n_0_0_0.start k i a = 0 := by
      unfold ScatterDims.start
      split
      · rw [hi]; rfl
      · rfl
    have hw (a) : scatter_S55_S1_S__n_0_0_0.window k a = 0 := by
      unfold ScatterDims.window
      rw [dif_neg]
      revert a
      decide
    simp only [hs, hw]
    constructor
    · intro h
      have := h 0
      simpa [eq_comm] using this
    · intro h a
      fin_cases a
      simp [h]
  by_cases hr : (r : ℕ) = 0
  · rw [if_pos hr]
    exact Routing.scatter_set_hit _ x i u _ _ (fun k _ => by rw [show k = ix0 from Subsingleton.elim _ _]) ix0 ((lands _).2 hr)
  · rw [if_neg hr]
    exact Routing.scatter_set_miss _ x i u _ fun k h => hr ((lands k).1 h)

end Cert.Field

end
-- ==== Proof.RefValue.lean ====
/- What the reference computes, entry by entry over its arguments. -/
module

public import proofs.«01_k».proof.Proof.Arrival
public import proofs.«01_k».proof.Proof.RefField
public import proofs.«01_k».proof.Proof.Gen.ReferenceIdeal.Run
public import Idealize.ShloMosaic.Lib.Tactic.CleanTypes

@[expose] public section

set_option maxRecDepth 16384

noncomputable section

namespace Cert.Field

open Idealize.ShloMosaic Idealize.ShloMosaic.StableHlo Cert.ReferenceIdeal Cert.ReferenceIdeal.Gen Cert.ReferenceIdeal.Value

/-- The x coordinate of point `p` of the field. -/
def fieldX (p : ℕ) : EReal := (((p % 120 : ℕ) + 1 / 2 : ℝ) : EReal)

/-- The y coordinate of point `p` of the field. -/
def fieldY (p : ℕ) : EReal :=
  if p / 120 = 0 then Ideal.ofBits .f32 0xBE4CCCCD#32 else (((p / 120 : ℕ) - 1 / 2 : ℝ) : EReal)

variable (V0 : Valuation τ sig (Elt Ideal))

/-- The arguments at the types of their arrays: the frames, sigma, the greatest acceleration, the greatest speed and the
    reaction time. -/
abbrev frames : FVec Ideal S4x22x12 .f32 := V0 (Proc.devRef .tc main_arg0)
abbrev sigma : Ideal .f32 := (V0 (Proc.devRef .tc main_arg1) : FVec Ideal S_ .f32) ix0
abbrev accel : Ideal .f32 := (V0 (Proc.devRef .tc main_arg2) : FVec Ideal S_ .f32) ix0
abbrev speed : Ideal .f32 := (V0 (Proc.devRef .tc main_arg3) : FVec Ideal S_ .f32) ix0
abbrev react : Ideal .f32 := (V0 (Proc.devRef .tc main_arg4) : FVec Ideal S_ .f32) ix0

variable (b : Fin 4) (p : Fin 6600) (j : Fin 22)

/-- The difference of a point's and a player's x coordinates, after the reaction time. -/
theorem diffX_ref : res_main_v64 V0 (ix4 b p j 0)
    = fieldX p - R.place (frames V0 (ix3 b j 1)) (frames V0 (ix3 b j 3)) (frames V0 (ix3 b j 5)) (react V0) := by
  unfold res_main_v64
  clean_types
  pointwise [res_main_call0_v0, res_main_call0_v1, res_main_call0_v6, R.place]
  refine congrArg (· - _) ?_
  have hc : (p : ℕ) % 120 < 120 := Nat.mod_lt _ (by norm_num)
  unfold fieldX
  generalize (p : ℕ) % 120 = n at hc
  rw [counter (by omega), word_119, show id (constant S_ .f32 0x3F000000#32 : FVec Ideal S_ .f32) ix0 = _ from half_word,
    show id (constant S_ .f32 0x42EF0000#32 : FVec Ideal S_ .f32) ix0 = _ from word_119_half]
  split
  · rw [spaced _ _ _ _ (by norm_num)]
    congr 1
    push_cast
    ring
  · rw [show n = 119 by omega]

/-- The difference of their y coordinates. -/
theorem diffY_ref : res_main_v64 V0 (ix4 b p j 1)
    = fieldY p - R.place (frames V0 (ix3 b j 2)) (frames V0 (ix3 b j 4)) (frames V0 (ix3 b j 6)) (react V0) := by
  unfold res_main_v64
  clean_types
  pointwise [res_main_call1_v0, res_main_call1_v1, res_main_call1_v6, R.place]
  refine congrArg (· - _) ?_
  rw [overwrite _ _ _ (fun k => by pointwise)]
  unfold fieldY
  refine if_congr Iff.rfl rfl ?_
  pointwise
  have hc : (p : ℕ) / 120 < 55 := by omega
  generalize (p : ℕ) / 120 = n at hc
  rw [counter (by omega), word_54, show id (constant S_ .f32 0xBF000000#32 : FVec Ideal S_ .f32) ix0 = _ from word_neg_half,
    show id (constant S_ .f32 0x42560000#32 : FVec Ideal S_ .f32) ix0 = _ from word_53_half]
  split
  · rw [spaced _ _ _ _ (by norm_num)]
    congr 1
    push_cast
    ring
  · rw [show n = 54 by omega]
    norm_num

theorem dist_ref : res_main_v65 V0 (ix3 b p j) = dist (res_main_v64 V0 (ix4 b p j 0)) (res_main_v64 V0 (ix4 b p j 1)) := by
  unfold res_main_v65
  clean_types
  pointwise [dist]
  rw [Fin.sum_univ_two]

theorem closing_ref : res_main_v72 V0 (ix3 b p j)
    = closing (speed V0) (res_main_v64 V0 (ix4 b p j 0)) (res_main_v64 V0 (ix4 b p j 1))
        (vel (frames V0 (ix3 b j 3)) (frames V0 (ix3 b j 5)) (react V0))
        (vel (frames V0 (ix3 b j 4)) (frames V0 (ix3 b j 6)) (react V0)) := by
  unfold closing
  rw [← dist_ref]
  unfold res_main_v72
  clean_types
  pointwise [vel]
  rw [Fin.sum_univ_one, Fin.sum_univ_one]

theorem upTime_ref : res_main_v76 V0 (ix3 b p j) = upTime (accel V0) (speed V0) (res_main_v72 V0 (ix3 b p j)) := by
  unfold res_main_v76
  clean_types
  pointwise [upTime]

theorem upWay_ref : res_main_v81 V0 (ix3 b p j) = R.upWay (accel V0) (speed V0) (res_main_v72 V0 (ix3 b p j)) := by
  unfold R.upWay
  rw [← upTime_ref]
  unfold res_main_v81
  clean_types
  pointwise

theorem ratio_ref : res_main_v87 V0 (ix3 b p j) = Ideal.div (res_main_v72 V0 (ix3 b p j)) (accel V0) := by
  unfold res_main_v87
  clean_types
  pointwise

/-- The entry of the result for frame `b`, point `p` of the field, arrival time `k` and player `j`. -/
def referenceAt (k : Fin 40) : EReal :=
  R.entry (sigma V0) (accel V0) (speed V0) (react V0) (Ideal.ofBits .f32 (lit0 k)) (fieldX p) (fieldY p)
    (frames V0 (ix3 b j 1)) (frames V0 (ix3 b j 2)) (frames V0 (ix3 b j 3)) (frames V0 (ix3 b j 4))
    (frames V0 (ix3 b j 5)) (frames V0 (ix3 b j 6))

/-- The reference's intermediate arrays at their types: the distances, the closing speeds, the times and the ways up to the
    greatest speed, and the ratios of closing speed to acceleration. -/
abbrev dists : FVec Ideal S4x6600x22 .f32 := res_main_v65 V0
abbrev closings : FVec Ideal S4x6600x22 .f32 := res_main_v72 V0
abbrev upTimes : FVec Ideal S4x6600x22 .f32 := res_main_v76 V0
abbrev upWays : FVec Ideal S4x6600x22 .f32 := res_main_v81 V0
abbrev ratios : FVec Ideal S4x6600x22 .f32 := res_main_v87 V0

/-- `referenceAt` from the intermediate arrays. -/
theorem referenceAt_eq (k : Fin 40) : referenceAt V0 b p j k
    = R.chance (sigma V0) (Ideal.ofBits .f32 (lit0 k))
        (react V0
          + Scalar.select (Ideal.cmp .ogt (upWays V0 (ix3 b p j)) (dists V0 (ix3 b p j)))
              (Ideal.div (-closings V0 (ix3 b p j)) (accel V0)
                + Ideal.sqrt (ratios V0 (ix3 b p j) * ratios V0 (ix3 b p j)
                  + Ideal.div (Ideal.ofBits .f32 0x40000000#32 * dists V0 (ix3 b p j)) (accel V0)))
              (upTimes V0 (ix3 b p j))
          + Ideal.div (dists V0 (ix3 b p j) - max (min (upWays V0 (ix3 b p j)) (dists V0 (ix3 b p j))) 0) (speed V0)) := by
  unfold dists closings upTimes upWays ratios
  rw [upWay_ref, upTime_ref, ratio_ref, closing_ref, dist_ref, diffX_ref, diffY_ref]
  rfl

open Idealize.ShloMosaic.TcCoe Idealize.SL.Sem in
/-- The reference's run: every execution ends with the result at `referenceAt`, its arguments unchanged. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v122)
        = (fun i : S4x6600x40x22.Idx => referenceAt (launchContents m c) (i 0) (i 1) (i 3) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2⟩) (run m ρ)
  funext i
  idx_vars i
  show _ = referenceAt (launchContents m c) i0 i1 i3 i2
  rw [referenceAt_eq]
  generalize launchContents m c = V0
  clean_types
  pointwise [R.chance, steep]
  rw [show S40.rowMajor (ix1 i2) = i2 from Fin.ext ((rowMajor_val1 (d := S40.size) (ix1 i2)).trans (by simp))]
  rfl

end Cert.Field

end
-- ==== Proof.Equation.lean ====
/- The equation: the kernel's entry is the reference's, on equal arguments, when neither sigma nor the greatest
   acceleration is zero. -/
module

public import proofs.«01_k».proof.Proof.Tables
public import proofs.«01_k».proof.Proof.KernelValue
public import proofs.«01_k».proof.Proof.RefValue

@[expose] public section

set_option maxRecDepth 16384

noncomputable section

namespace Cert.Field

open Idealize.ShloMosaic Idealize.ShloMosaic.TcCoe Idealize.SL.Sem

/-- A point of the field from its number. -/
theorem point_of (p : Fin 6600) :
    (p.castLE (by decide) : Fin 6656) = point ⟨(p : ℕ) / 120, by omega⟩ ⟨(p : ℕ) % 120, by omega⟩ := by
  apply Fin.ext
  simp only [point, Fin.val_castLE]
  omega

/-- The kernel's x table holds the reference's x coordinates. -/
theorem x_table (p : Fin 6600) : Ideal.ofBits .f32 (Cert.KernelIdeal.lit0 (p.castLE (by decide))) = fieldX p := by
  rw [point_of, x_entry]
  rfl

/-- The kernel's y table holds the reference's y coordinates. -/
theorem y_table (p : Fin 6600) : Ideal.ofBits .f32 (Cert.KernelIdeal.lit1 (p.castLE (by decide))) = fieldY p := by
  rw [point_of, y_entry]
  rfl

/-- Both programs hold the same arrival times. -/
theorem t_table : ∀ k : Fin 40, Cert.KernelIdeal.lit2 k = Cert.ReferenceIdeal.lit0 k := by decide +kernel

theorem entries_agree (m : (ℓ : Loc Cert.KernelIdeal.nD Cert.KernelIdeal.τ Cert.KernelIdeal.sig) → Buf (Elt Ideal) ℓ)
    (V0 : Valuation Cert.ReferenceIdeal.τ Cert.ReferenceIdeal.sig (Elt Ideal)) (c : Dev Cert.KernelIdeal.nD)
    (h0 : frames V0 = m ((c.tc : Thread Cert.KernelIdeal.nD Cert.KernelIdeal.τ).loc Cert.KernelIdeal.main_arg0))
    (h1 : sigma V0 = m ((c.tc : Thread Cert.KernelIdeal.nD Cert.KernelIdeal.τ).loc Cert.KernelIdeal.main_arg1) ix0)
    (h2 : accel V0 = m ((c.tc : Thread Cert.KernelIdeal.nD Cert.KernelIdeal.τ).loc Cert.KernelIdeal.main_arg2) ix0)
    (h3 : speed V0 = m ((c.tc : Thread Cert.KernelIdeal.nD Cert.KernelIdeal.τ).loc Cert.KernelIdeal.main_arg3) ix0)
    (h4 : react V0 = m ((c.tc : Thread Cert.KernelIdeal.nD Cert.KernelIdeal.τ).loc Cert.KernelIdeal.main_arg4) ix0)
    (hs : sigma V0 ≠ 0) (ha : accel V0 ≠ 0) (b : Fin 4) (p : Fin 6600) (j : Fin 22) (k : Fin 40) :
    kernelAt m c b j k (p.castLE (by decide)) = referenceAt V0 b p j k := by
  unfold kernelAt referenceAt
  rw [x_table, y_table, h0, h1, h2, h3, h4, ← t_table k]
  rw [h1] at hs
  rw [h2] at ha
  exact entry_eq hs ha (t_entry k) ..

end Cert.Field

end
-- ==== Proof.Algebraic.lean ====
/- The value claim: the kernel's result is the reference's, read over the reals, when sigma and the greatest acceleration
   are not zero; and the reference's frame. -/
module

public import proofs.«01_k».proof.Defs
public import proofs.«01_k».proof.Proof.KernelRun
public import proofs.«01_k».proof.Proof.Equation
public import Idealize.ShloMosaic.Lib.Quiescent

@[expose] public section

set_option maxRecDepth 16384

noncomputable section

namespace Cert.Field

open Idealize.ShloMosaic Idealize.ShloMosaic.TcCoe Idealize.SL.Sem

/-- What the precondition says: neither of the two scalars is zero. -/
theorem nonzero_of_pre [Cert.Pre_nonzero.Facts]
    (m : (ℓ : Loc Cert.KernelIdeal.nD Cert.KernelIdeal.τ Cert.KernelIdeal.sig) → Buf (Elt Ideal) ℓ)
    (h : Cert.Pre_KernelIdeal_nonzero m) (c : Dev Cert.KernelIdeal.nD) :
    m ((c.tc : Thread Cert.KernelIdeal.nD Cert.KernelIdeal.τ).loc Cert.KernelIdeal.main_arg1) ix0 ≠ (0 : EReal)
    ∧ m ((c.tc : Thread Cert.KernelIdeal.nD Cert.KernelIdeal.τ).loc Cert.KernelIdeal.main_arg2) ix0 ≠ (0 : EReal) := by
  have e := congrFun (h c) ix0
  unfold Cert.Pre_nonzero.fn at e
  pointwise at e
  constructor <;> (intro hz; simp [hz, IntOp.andi] at e)

/-- Every execution of the kernel and of the reference ends, and the two results are equal. -/
theorem algebraic [Cert.Pre_nonzero.Facts] : Cert.algebraic_KernelIdeal_ReferenceIdeal_pre_nonzero := by
  pair_intro
  · run_from kernel_run m g
  · run_from reference_run m' g'
    obtain ⟨e0, e1, e2, e3, e4⟩ := hagree c
    obtain ⟨hs, ha⟩ := nonzero_of_pre m hpre c
    have h1 := congrFun e1 ix0
    have h2 := congrFun e2 ix0
    funext i
    exact (entries_agree m (StableHlo.launchContents m' c) c e0 h1 h2 (congrFun e3 ix0) (congrFun e4 ix0)
      (fun hz => hs (h1.symm.trans hz)) (fun hz => ha (h2.symm.trans hz)) (i 0) (i 1) (i 3) (i 2)).symm

/-- The reference's frame: no operation writes an argument, and it has no semaphore. -/
theorem reference_frame : Cert.quiescent_ReferenceIdeal := fun m g _ =>
  (θ_run _ _ _).mono (fun r h => ⟨fun c => (h c).2, sem_eq_zero_of_no_sems (by decide) r.2⟩) (reference_run m g)

end Cert.Field

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Algebraic
public import Idealize.ShloMosaic.Adequacy
public import Idealize.ShloMosaic.Init

@[expose] public section

noncomputable section

namespace Cert.Proof

open Idealize.ShloMosaic Idealize.SL.Sem

/-- Every claim: the frames, `preserves` and the value claim. -/
theorem claim : Cert.Claim :=
  have pre : Cert.Pre_nonzero.Facts := ⟨⟩
  ⟨Cert.Kernel.Gen.facts, Cert.KernelIdeal.Gen.facts, Cert.ReferenceIdeal.Gen.facts, pre,
    fun m ρ _ => Cert.Kernel.Gen.frame m ρ, fun m ρ _ => Cert.KernelIdeal.Gen.frame m ρ,
    fun m ρ _ => Cert.KernelIdeal.Gen.frame m ρ, Cert.Field.reference_frame,
    fun m ρ _ => Cert.Field.reference_frame m ρ trivial, trivial, Cert.Field.algebraic⟩

end Cert.Proof

end
